-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v19) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S8x131072x8 : Shape := ⟨3, ![8, 131072, 8]⟩
abbrev S128x8x512 : Shape := ⟨3, ![128, 8, 512]⟩
abbrev S128 : Shape := ⟨1, ![128]⟩
abbrev S8x8x131072 : Shape := ⟨3, ![8, 8, 131072]⟩
abbrev S1x128 : Shape := ⟨2, ![1, 128]⟩
abbrev S8x1x128 : Shape := ⟨3, ![8, 1, 128]⟩
abbrev S1x8x131072 : Shape := ⟨3, ![1, 8, 131072]⟩
abbrev S1x1x128 : Shape := ⟨3, ![1, 1, 128]⟩
abbrev S4096x128 : Shape := ⟨2, ![4096, 128]⟩
abbrev S8x131072 : Shape := ⟨2, ![8, 131072]⟩
abbrev S128x1x512 : Shape := ⟨3, ![128, 1, 512]⟩
abbrev S128x512 : Shape := ⟨2, ![128, 512]⟩
abbrev S512x128 : Shape := ⟨2, ![512, 128]⟩
abbrev S8x256x512 : Shape := ⟨3, ![8, 256, 512]⟩
abbrev S256x8x512 : Shape := ⟨3, ![256, 8, 512]⟩
abbrev S256x4096 : Shape := ⟨2, ![256, 4096]⟩
abbrev S256x128 : Shape := ⟨2, ![256, 128]⟩
abbrev S8x128 : Shape := ⟨2, ![8, 128]⟩

abbrev nBuf : Space → Nat
  | .hbm => 10
  | .vmem => 10
  | .smem => 0
  | _ => 0

abbrev bufTy : (tb : Table) → Fin (tcTables nBuf tb) → BufTy
  | .hbm, ⟨0, _⟩ => ⟨S8x131072x8, .f32⟩
  | .hbm, ⟨1, _⟩ => ⟨S128x8x512, .f32⟩
  | .hbm, ⟨2, _⟩ => ⟨S128, .f32⟩
  | .hbm, ⟨3, _⟩ => ⟨S128x8x512, .f32⟩
  | .hbm, ⟨4, _⟩ => ⟨S128, .f32⟩
  | .hbm, ⟨5, _⟩ => ⟨S8x8x131072, .f32⟩
  | .hbm, ⟨6, _⟩ => ⟨S1x128, .f32⟩
  | .hbm, ⟨7, _⟩ => ⟨S1x128, .f32⟩
  | .hbm, ⟨8, _⟩ => ⟨S8x1x128, .f32⟩
  | .hbm, ⟨9, _⟩ => ⟨S8x128, .f32⟩
  | .local _ .vmem, ⟨0, _⟩ => ⟨S1x8x131072, .f32⟩
  | .local _ .vmem, ⟨1, _⟩ => ⟨S1x8x131072, .f32⟩
  | .local _ .vmem, ⟨2, _⟩ => ⟨S128x8x512, .f32⟩
  | .local _ .vmem, ⟨3, _⟩ => ⟨S128x8x512, .f32⟩
  | .local _ .vmem, ⟨4, _⟩ => ⟨S1x128, .f32⟩
  | .local _ .vmem, ⟨5, _⟩ => ⟨S1x128, .f32⟩
  | .local _ .vmem, ⟨6, _⟩ => ⟨S1x1x128, .f32⟩
  | .local _ .vmem, ⟨7, _⟩ => ⟨S1x1x128, .f32⟩
  | .local _ .vmem, ⟨8, _⟩ => ⟨S4096x128, .bf16⟩
  | .local _ .vmem, ⟨9, _⟩ => ⟨S4096x128, .bf16⟩
  | _, _ => ⟨S8x131072x8, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg5_1 : Ref sig .tc := ⟨.vmem, 7, rfl⟩
abbrev cc0_scratch0 : Ref sig .tc := ⟨.vmem, 8, rfl⟩
abbrev cc0_scratch1 : Ref sig .tc := ⟨.vmem, 9, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem5_0 : DmaSem sig := 6
abbrev cc0_sem5_1 : DmaSem sig := 7

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x8x131072 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x8x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S128x8x512 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 2 → Memref sig .tc .vmem S1x1x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]
-- ==== ReferenceIdeal.lean ====
abbrev S8x131072x8 : Shape := ⟨3, ![8, 131072, 8]⟩
abbrev S128x8x512 : Shape := ⟨3, ![128, 8, 512]⟩
abbrev S128 : Shape := ⟨1, ![128]⟩
abbrev S8x8x131072 : Shape := ⟨3, ![8, 8, 131072]⟩
abbrev S8x8x256x512 : Shape := ⟨4, ![8, 8, 256, 512]⟩
abbrev S128x8x256 : Shape := ⟨3, ![128, 8, 256]⟩
abbrev S8x128x256 : Shape := ⟨3, ![8, 128, 256]⟩
abbrev S1x128x1 : Shape := ⟨3, ![1, 128, 1]⟩
abbrev S_ : Shape := ⟨0, ![]⟩
abbrev S8x128 : Shape := ⟨2, ![8, 128]⟩

abbrev nBuf : Space → Nat
  | .hbm => 28
  | .vmem => 0
  | .smem => 0
  | _ => 0

abbrev bufTy : (tb : Table) → Fin (tcTables nBuf tb) → BufTy
  | .hbm, ⟨0, _⟩ => ⟨S8x131072x8, .f32⟩
  | .hbm, ⟨1, _⟩ => ⟨S128x8x512, .f32⟩
  | .hbm, ⟨2, _⟩ => ⟨S128, .f32⟩
  | .hbm, ⟨3, _⟩ => ⟨S128x8x512, .f32⟩
  | .hbm, ⟨4, _⟩ => ⟨S128, .f32⟩
  | .hbm, ⟨5, _⟩ => ⟨S8x8x131072, .f32⟩
  | .hbm, ⟨6, _⟩ => ⟨S8x8x256x512, .f32⟩
  | .hbm, ⟨7, _⟩ => ⟨S128x8x256, .f32⟩
  | .hbm, ⟨8, _⟩ => ⟨S8x128x256, .f32⟩
  | .hbm, ⟨9, _⟩ => ⟨S1x128x1, .f32⟩
  | .hbm, ⟨10, _⟩ => ⟨S8x128x256, .f32⟩
  | .hbm, ⟨11, _⟩ => ⟨S8x128x256, .f32⟩
  | .hbm, ⟨12, _⟩ => ⟨S128x8x256, .f32⟩
  | .hbm, ⟨13, _⟩ => ⟨S8x128x256, .f32⟩
  | .hbm, ⟨14, _⟩ => ⟨S1x128x1, .f32⟩
  | .hbm, ⟨15, _⟩ => ⟨S8x128x256, .f32⟩
  | .hbm, ⟨16, _⟩ => ⟨S8x128x256, .f32⟩
  | .hbm, ⟨17, _⟩ => ⟨S8x128x256, .f32⟩
  | .hbm, ⟨18, _⟩ => ⟨S8x128x256, .f32⟩
  | .hbm, ⟨19, _⟩ => ⟨S_, .f32⟩
  | .hbm, ⟨20, _⟩ => ⟨S8x128x256, .f32⟩
  | .hbm, ⟨21, _⟩ => ⟨S8x128x256, .f32⟩
  | .hbm, ⟨22, _⟩ => ⟨S_, .f32⟩
  | .hbm, ⟨23, _⟩ => ⟨S8x128x256, .f32⟩
  | .hbm, ⟨24, _⟩ => ⟨S8x128x256, .f32⟩
  | .hbm, ⟨25, _⟩ => ⟨S8x128x256, .f32⟩
  | .hbm, ⟨26, _⟩ => ⟨S_, .f32⟩
  | .hbm, ⟨27, _⟩ => ⟨S8x128, .f32⟩
  | _, _ => ⟨S8x131072x8, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_cst : Ref sig .tc := ⟨.hbm, 19, rfl⟩
abbrev main_v14 : Ref sig .tc := ⟨.hbm, 20, rfl⟩
abbrev main_v15 : Ref sig .tc := ⟨.hbm, 21, rfl⟩
abbrev main_cst_0 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_1 : Ref sig .tc := ⟨.hbm, 26, rfl⟩
abbrev main_v19 : Ref sig .tc := ⟨.hbm, 27, rfl⟩

abbrev nD : Nat := 1
abbrev τ : Topo := Topo.v7x

variable {F : FTy → Type} [FloatOps F]
-- ==== Proof.Gate.lean ====
/-
  The mathematics both programs compute, on plain functions of coordinates: a convolution whose stride is its
  width, gated by the logistic of another, and the maximum over its windows.
-/
module

public import Idealize.ShloMosaic.PureOps.Ideal
public import Idealize.ShloMosaic.PureOps.Ideal.Laws

@[expose] public section

noncomputable section

open Idealize.ShloMosaic
open scoped BigOperators

namespace Cert.Gate

/-- One output of the convolution: the sum over channels `e` and taps `r` of the signal in window `w` times the
    filter, plus the bias. -/
def conv (z : Fin 131072 → Fin 8 → EReal) (W : Fin 8 → Fin 512 → EReal) (b : EReal) (w : Fin 256) : EReal :=
  (∑ e : Fin 8, ∑ r : Fin 512, z ⟨(w : ℕ) * 512 + r, by omega⟩ e * W e r) + b

/-- The maximum over the windows of the first convolution times the logistic of the second. -/
def pooled (z : Fin 131072 → Fin 8 → EReal) (W1 W2 : Fin 8 → Fin 512 → EReal) (b1 b2 : EReal) : EReal :=
  (Finset.univ : Finset (Fin 256)).fold max (Ideal.ofBits .f32 0xFF800000#32)
    fun w => conv z W1 b1 w * Ideal.logistic (conv z W2 b2 w)

/-- A sum over the 4096 rows of a packed filter is the double sum over channels and taps. -/
theorem sum_rows (f : Fin 8 → Fin 512 → EReal) :
    ∑ k : Fin 4096, f ⟨(k : ℕ) / 512, by omega⟩ ⟨(k : ℕ) % 512, by omega⟩ = ∑ e : Fin 8, ∑ r : Fin 512, f e r := by
  rw [← Fintype.sum_prod_type' f, ← Equiv.sum_comp (finProdFinEquiv (m := 8) (n := 512)).symm]
  rfl

end Cert.Gate
-- ==== Proof.KernelBlock.lean ====
/-
  What one grid point computes: the two scratch buffers the first point fills with the transposed
  filters, and the output block every point stores.
-/
module

public import proofs.«01_k».proof.Proof.Gen.KernelIdeal.Frame
public import Idealize.ShloMosaic.Lib.Pipeline.ValueKit
public import Idealize.ShloMosaic.Lib.Pipeline.ReadBack
public import Idealize.ShloMosaic.Lib.ValueIdx

@[expose] public section

set_option maxRecDepth 16384

noncomputable section

open Idealize.ShloMosaic Idealize.ShloMosaic.TcCoe Idealize.SL.Sem

namespace Cert.KernelIdeal.Value

open Cert.KernelIdeal Cert.KernelIdeal.Gen

variable {F : FTy → Type} [FloatOps F]

variable (c : Dev nD) (i : grid0.Coords)
  (a1 : Memref sig .tc .vmem S1x8x131072 .f32) (h1 : a1.IsWhole)
  (a2 : Memref sig .tc .vmem S128x8x512 .f32) (h2 : a2.IsWhole)
  (a3 : Memref sig .tc .vmem S128x8x512 .f32) (h3 : a3.IsWhole)
  (a4 : Memref sig .tc .vmem S1x128 .f32) (h4 : a4.IsWhole)
  (a5 : Memref sig .tc .vmem S1x128 .f32) (h5 : a5.IsWhole)
  (a6 : Memref sig .tc .vmem S1x1x128 .f32) (h6 : a6.IsWhole)
  (a7 : Memref sig .tc .vmem S4096x128 .bf16) (h7 : a7.IsWhole)
  (a8 : Memref sig .tc .vmem S4096x128 .bf16) (h8 : a8.IsWhole)
  (x0 : Vec F S1x8x131072 .f32) (x1 x2 : Vec F S128x8x512 .f32) (x3 x4 : Vec F S1x128 .f32)
  (xs0 xs1 : Vec F S4096x128 .bf16)

/-- The filters as the scratch holds them: row `e * 512 + r`, column `o` is filter `o` at channel `e`,
    tap `r`, rounded to bf16. -/
def packed (x : Vec F S128x8x512 .f32) : Vec F S4096x128 .bf16 := fun y =>
  truncf .bf16 x bitsLt_bf16_f32 (ix3 (y 1) ⟨(y 0 : ℕ) / 512, by have : (y 0 : ℕ) < 4096 := (y 0).isLt; omega⟩
    ⟨(y 0 : ℕ) % 512, by omega⟩)

/-- One of the eight stores into a scratch, read at an index: it is the packed filters there. -/
theorem fill_apply (x : Vec F S128x8x512 .f32) (e : ℕ) (inb : ∀ a, ![0, e, 0] a + ![128, 1, 512] a ≤ S128x8x512.size a)
    (hs : S128x1x512.ShapeCasts S128x512) (ht : S128x512.Transposes [1, 0] S512x128)
    (hb : FTy.bits .bf16 < FTy.bits .f32) (hc : S512x128.ShapeCasts S512x128) (z : S512x128.Idx) (y : S4096x128.Idx)
    (h0 : (y 0 : ℕ) = e * 512 + z 0) (h1 : (y 1 : ℕ) = z 1) :
    shapeCast S512x128 (truncf .bf16 (transpose S512x128 [1, 0]
      (shapeCast S128x512 (View.ld x (Rect.unit ![0, e, 0] ![128, 1, 512] inb)) hs) ht) hb) hc z = packed x y := by
  have hz0 : (z 0 : ℕ) < 512 := (z 0).isLt
  have hz1 : (z 1 : ℕ) < 128 := (z 1).isLt
  rw [shapeCast_self]
  unfold packed
  rw [truncf_apply, truncf_apply]
  rw [transpose_apply [1, 0] _ ht z (ix2 (z 1) (z 0)) (fun b => match b with | ⟨0, _⟩ => rfl | ⟨1, _⟩ => rfl)]
  rw [shapeCast_apply _ hs (ix2 (z 1) (z 0)) (ix3 (z 1) (0 : Fin 1) (z 0)) (by
    rw [Shape.rowMajor_val_two, Shape.rowMajor_val_three]
    show ((z 1 : ℕ) * 1 + 0) * 512 + (z 0 : ℕ) = (z 1 : ℕ) * 512 + (z 0 : ℕ); omega)]
  rw [View.ld_apply]
  congr 2
  funext a
  apply Fin.ext
  rw [Rect.idx_unit_val]
  match a with
  | ⟨0, _⟩ => show 0 + (z 1 : ℕ) = (y 1 : ℕ); omega
  | ⟨1, _⟩ => show e + 0 = (y 0 : ℕ) / 512; omega
  | ⟨2, _⟩ => show 0 + (z 0 : ℕ) = (y 0 : ℕ) % 512; omega

/-- After the first point the first scratch holds the packed first filters. -/
theorem scratch_A_0 (hc : cond0_0 i) :
    sout0_A_0 c i a1 h1 a2 h2 a3 h3 a4 h4 a5 h5 a6 h6 a7 h7 a8 h8 hc x0 x1 x2 x3 x4 = packed x1 := by
  frame_out
  funext y
  canon_tiles z h
  all_goals (open_payloads; refine fill_apply x1 _ _ _ _ _ _ z y ?_ ?_ <;> omega)

/-- After the first point the second scratch holds the packed second filters. -/
theorem scratch_A_1 (hc : cond0_0 i) :
    sout0_A_1 c i a1 h1 a2 h2 a3 h3 a4 h4 a5 h5 a6 h6 a7 h7 a8 h8 hc x0 x1 x2 x3 x4 = packed x2 := by
  frame_out
  funext y
  canon_tiles z h
  all_goals (open_payloads; refine fill_apply x2 _ _ _ _ _ _ z y ?_ ?_ <;> omega)

/-- The two-axis origin is zero on both axes. -/
theorem hz2 : (![0, 0] : Fin 2 → ℕ) = fun _ => 0 := funext fun a => by fin_cases a <;> rfl

/-- The output block of the first point: the gated maxima of the point's windows against the filters just
    packed. -/
theorem out_A (hc : cond0_0 i) :
    out0_A_5 c i a1 h1 a2 h2 a3 h3 a4 h4 a5 h5 a6 h6 a7 h7 a8 h8 hc x0 x1 x2 x3 x4
      = k0_pay4 x0 (packed x1) x3 (packed x2) x4 := by
  frame_out
  congr 1
  · refine (View.readCov_eq_canon' _ _ _).trans ((View.ld_unit_zero (S := S4096x128) hz2 _ _).trans ?_)
    funext y
    canon_tiles z h
    all_goals (open_payloads; refine fill_apply x1 _ _ _ _ _ _ z y ?_ ?_ <;> omega)
  · refine (View.readCov_eq_canon' _ _ _).trans ((View.ld_unit_zero (S := S4096x128) hz2 _ _).trans ?_)
    funext y
    canon_tiles z h
    all_goals (open_payloads; refine fill_apply x2 _ _ _ _ _ _ z y ?_ ?_ <;> omega)

/-- The output block of every later point: the same, against what the two scratch buffers carry. -/
theorem out_B (hc : ¬cond0_0 i) :
    out0_B_5 c i a1 h1 a2 h2 a3 h3 a4 h4 a5 h5 a6 h6 a7 h7 a8 h8 hc x0 x1 x2 x3 x4 xs0 xs1
      = k0_pay4 x0 xs0 x3 xs1 x4 := by
  frame_out

end Cert.KernelIdeal.Value
-- ==== Proof.KernelRead.lean ====
/-
  What one output block holds over the extended reals: at column `o`, the gated convolution's maximum over the
  windows of the point's batch row.
-/
module

public import proofs.«01_k».proof.Proof.Gate
public import proofs.«01_k».proof.Proof.KernelBlock
public import Idealize.ShloMosaic.Lib.MatmulPlain
public import Idealize.ShloMosaic.Lib.ValueLayout

@[expose] public section

set_option maxRecDepth 16384

noncomputable section

open Idealize.ShloMosaic Idealize.ShloMosaic.TcCoe Idealize.SL.Sem
open scoped BigOperators

namespace Cert.KernelIdeal.Value

open Cert.KernelIdeal Cert.KernelIdeal.Gen

/-- The windows of the point's batch row laid out as the product's left operand: row `w`, column `e * 512 + r` is
    channel `e` at time `w * 512 + r`. -/
theorem windows_apply (x0 : Vec Ideal S1x8x131072 .f32) (w : Fin 256) (k : Fin 4096) :
    shapeCast S256x4096 (transpose S256x8x512 [1, 0, 2] (shapeCast S8x256x512
      (truncf .bf16 (shapeCast S8x131072 x0 shapeCasts_S1x8x131072_S8x131072) bitsLt_bf16_f32 : FVec Ideal S8x131072 .bf16)
      shapeCasts_S8x131072_S8x256x512) transposes_S8x256x512_p1_0_2_S256x8x512) shapeCasts_S256x8x512_S256x4096
      (ValueIdx.ix2 w k)
      = x0 (ValueIdx.ix3 (0 : Fin 1) (⟨(k : ℕ) / 512, by omega⟩ : Fin 8)
          (⟨(w : ℕ) * 512 + (k : ℕ) % 512, by omega⟩ : Fin 131072)) := by
  have hk := k.isLt
  have hw := w.isLt
  rw [shapeCast_apply _ shapeCasts_S256x8x512_S256x4096 (ValueIdx.ix2 w k)
    (ValueIdx.ix3 w (⟨(k : ℕ) / 512, by omega⟩ : Fin 8) (⟨(k : ℕ) % 512, by omega⟩ : Fin 512)) (by
      rw [Shape.rowMajor_val_two, Shape.rowMajor_val_three]
      show ((w : ℕ) * 8 + (k : ℕ) / 512) * 512 + (k : ℕ) % 512 = (w : ℕ) * 4096 + (k : ℕ); omega)]
  rw [transpose_apply [1, 0, 2] _ transposes_S8x256x512_p1_0_2_S256x8x512 _
    (ValueIdx.ix3 (⟨(k : ℕ) / 512, by omega⟩ : Fin 8) w (⟨(k : ℕ) % 512, by omega⟩ : Fin 512))
    (fun b => match b with | ⟨0, _⟩ => rfl | ⟨1, _⟩ => rfl | ⟨2, _⟩ => rfl)]
  rw [shapeCast_apply _ shapeCasts_S8x131072_S8x256x512 _
    (ValueIdx.ix2 (⟨(k : ℕ) / 512, by omega⟩ : Fin 8) (⟨(w : ℕ) * 512 + (k : ℕ) % 512, by omega⟩ : Fin 131072)) (by
      rw [Shape.rowMajor_val_two, Shape.rowMajor_val_three]
      show (k : ℕ) / 512 * 131072 + ((w : ℕ) * 512 + (k : ℕ) % 512)
        = ((k : ℕ) / 512 * 256 + (w : ℕ)) * 512 + (k : ℕ) % 512; omega)]
  rw [ValueIdx.truncf_apply]
  exact shapeCast_apply _ shapeCasts_S1x8x131072_S8x131072 _ _ (by
    rw [Shape.rowMajor_val_two, Shape.rowMajor_val_three]
    show (0 * 8 + (k : ℕ) / 512) * 131072 + ((w : ℕ) * 512 + (k : ℕ) % 512)
      = (k : ℕ) / 512 * 131072 + ((w : ℕ) * 512 + (k : ℕ) % 512); omega)

/-- The signal of a batch row, by time and channel. -/
abbrev signal (x0 : Vec Ideal S1x8x131072 .f32) : Fin 131072 → Fin 8 → EReal :=
  fun t e => x0 (ValueIdx.ix3 (0 : Fin 1) e t)

/-- Filter `o`, by channel and tap. -/
abbrev filter (x : Vec Ideal S128x8x512 .f32) (o : Fin 128) : Fin 8 → Fin 512 → EReal :=
  fun e r => x (ValueIdx.ix3 o e r)

/-- A product of the windows with packed filters, plus the bias row, is the convolution. -/
theorem product_apply (A : FVec Ideal S256x4096 .bf16) (x0 : Vec Ideal S1x8x131072 .f32) (x : Vec Ideal S128x8x512 .f32)
    (b : Vec Ideal S1x128 .f32)
    (hA : ∀ (w : Fin 256) (k : Fin 4096), A (ValueIdx.ix2 w k) = x0 (ValueIdx.ix3 (0 : Fin 1)
      (⟨(k : ℕ) / 512, by omega⟩ : Fin 8) (⟨(w : ℕ) * 512 + (k : ℕ) % 512, by omega⟩ : Fin 131072)))
    (w : Fin 256) (o : Fin 128) :
    addf (matmul (φ₂ := .bf16) dot_S256x4096_S4096x128_S256x128_1_0_0_1_n_n none A (packed x) (constant S256x128 .f32 0x00000000#32))
      (broadcastTo S256x128 (shapeCast S1x128 b shapeCasts_S1x128_S1x128) broadcasts_S1x128_S256x128) (ValueIdx.ix2 w o)
      = Gate.conv (signal x0) (filter x o) (b (ValueIdx.ix2 (0 : Fin 1) o)) w := by
  rw [ValueIdx.addf_apply]
  unfold Gate.conv
  congr 1
  · refine (Ideal.matmul_plain_apply (M := 256) (K := 4096) (N := 128) (φ₁ := .bf16) (φ₂ := .bf16) none A (packed x) _ w o).trans ?_
    rw [show (constant S256x128 .f32 0x00000000#32 : FVec Ideal S256x128 .f32) (ValueIdx.ix2 w o) = 0 from
      Ideal.ofBits_zero_f32, zero_add]
    refine Eq.trans (Finset.sum_congr rfl fun k _ => ?_) (Gate.sum_rows fun e r =>
      signal x0 ⟨(w : ℕ) * 512 + r, by omega⟩ e * filter x o e r)
    rw [hA]
    rfl
  · rw [shapeCast_self]
    exact broadcastTo_apply b broadcasts_S1x128_S256x128 _ _ (fun a => match a with
      | ⟨0, _⟩ => rfl
      | ⟨1, _⟩ => rfl)

/-- The block a point stores, at column `o`. -/
theorem block_apply (x0 : Vec Ideal S1x8x131072 .f32) (x1 x2 : Vec Ideal S128x8x512 .f32)
    (x3 x4 : Vec Ideal S1x128 .f32) (o : Fin 128) :
    k0_pay4 x0 (packed x1) x3 (packed x2) x4 (ValueIdx.ix3 (0 : Fin 1) (0 : Fin 1) o)
      = Gate.pooled (signal x0) (filter x1 o) (filter x2 o) (x3 (ValueIdx.ix2 (0 : Fin 1) o))
          (x4 (ValueIdx.ix2 (0 : Fin 1) o)) := by
  unfold k0_pay4
  dsimp only
  rw [shapeCast_apply _ shapeCasts_S1x128_S1x1x128 _ (ValueIdx.ix2 (0 : Fin 1) o) (by
    rw [Shape.rowMajor_val_two, Shape.rowMajor_val_three]
    show 0 * 128 + (o : ℕ) = (0 * 1 + 0) * 128 + (o : ℕ); omega)]
  rw [shapeCast_apply _ shapeCasts_S128_S1x128 _ (ValueIdx.ix1 o) (by
    rw [Shape.rowMajor_val_one, Shape.rowMajor_val_two]
    show (o : ℕ) = 0 * 128 + (o : ℕ); omega)]
  refine (Ideal.multiReduction_maximumf_single _ _ reduces_S256x128_S128 _ _ _).trans ?_
  unfold Gate.pooled
  refine congrArg (Finset.fold max (Ideal.ofBits .f32 0xFF800000#32) · (Finset.univ : Finset (Fin 256))) (funext fun w => ?_)
  have hl : reduces_S256x128_S128.lift (ValueIdx.ix1 o) w = ValueIdx.ix2 w o := by
    funext a
    match a with
    | ⟨0, _⟩ => rfl
    | ⟨1, _⟩ => rfl
  rw [Function.comp_apply, hl]
  exact congrArg₂ (fun p q : EReal => p * Ideal.logistic q) (product_apply _ x0 x1 x3 (windows_apply x0) w o)
    (product_apply _ x0 x2 x4 (windows_apply x0) w o)

end Cert.KernelIdeal.Value
-- ==== Proof.KernelArray.lean ====
/-
  What the kernel's result array holds when the run ends: the blocks of the eight points, put together.
-/
module

public import proofs.«01_k».proof.Proof.KernelRead
public import Idealize.ShloMosaic.Lib.Pipeline.Value
public import Idealize.ShloMosaic.Lib.StableHlo.Run

@[expose] public section

set_option maxRecDepth 16384

noncomputable section

open Idealize.ShloMosaic Idealize.ShloMosaic.TcCoe Idealize.SL.Sem
open Idealize.ShloMosaic.Pipeline (Dat)

namespace Cert.KernelIdeal.Value

open Cert.KernelIdeal Cert.KernelIdeal.Gen

section Generic

variable {F : FTy → Type} [FloatOps F]
variable (m : (ℓ : Loc nD τ sig) → Buf (Elt F) ℓ) (ρ : Dev nD → PrngReg) (c : Dev nD)

/-- A point's block of the signal starts at its batch row. -/
theorem index_0 : ∀ t : Fin grid0.N, win0_0.index t = ![t.val, 0, 0] := by decide +kernel
/-- The first filters' block starts at the origin. -/
theorem index_1 : ∀ t : Fin grid0.N, win0_1.index t = ![0, 0, 0] := by decide +kernel
/-- The second filters' block starts at the origin. -/
theorem index_2 : ∀ t : Fin grid0.N, win0_2.index t = ![0, 0, 0] := by decide +kernel
/-- The first bias's block starts at the origin. -/
theorem index_3 : ∀ t : Fin grid0.N, win0_3.index t = ![0, 0] := by decide +kernel
/-- The second bias's block starts at the origin. -/
theorem index_4 : ∀ t : Fin grid0.N, win0_4.index t = ![0, 0] := by decide +kernel
/-- A point's output block starts at its batch row. -/
theorem index_5 : ∀ t : Fin grid0.N, win0_5.index t = ![t.val, 0, 0] := by decide +kernel

/-- The first filters' block is the whole array, as launched. -/
theorem block_1 (t : Fin cfg0.N) : iblk m c 1 t = m ((c : Thread nD τ).loc main_arg1) := by
  refine Eq.trans ?_ (V_main_arg1 m c)
  have hz : (fun a => win0_1.index t a * main_arg1.ty.shape.size a) = fun _ => 0 := by
    rw [index_1 t]; funext a; fin_cases a <;> rfl
  exact Memref.read_access_unit_zero (Elt F) main_arg1 hz (fun a => by rw [congrFun hz a]; simp) _

/-- The second filters' block is the whole array, as launched. -/
theorem block_2 (t : Fin cfg0.N) : iblk m c 2 t = m ((c : Thread nD τ).loc main_arg3) := by
  refine Eq.trans ?_ (V_main_arg3 m c)
  have hz : (fun a => win0_2.index t a * main_arg3.ty.shape.size a) = fun _ => 0 := by
    rw [index_2 t]; funext a; fin_cases a <;> rfl
  exact Memref.read_access_unit_zero (Elt F) main_arg3 hz (fun a => by rw [congrFun hz a]; simp) _

/-- After every point the two scratch buffers hold the packed filters: the first point stores them, every later
    point keeps them. -/
theorem scratch_at : ∀ (n : ℕ) (hn : n < cfg0.N), (outsAt0 m c n hn).2
      = (packed (m ((c : Thread nD τ).loc main_arg1)), packed (m ((c : Thread nD τ).loc main_arg3)))
  | 0, hn => by
    rw [outsAt0_A m c ⟨0, hn⟩ rfl, scratch_A_0, scratch_A_1, block_1, block_2]
  | n + 1, hn => by
    have hN : cfg0.N = 8 := N_0
    have hB : ¬(⟨n + 1, hn⟩ : Fin cfg0.N).val % 8 = 0 := by dsimp only; omega
    rw [outsAt0_B m c ⟨n + 1, hn⟩ hB]
    exact scratch_at n (Nat.lt_of_succ_lt hn)

/-- Every point's output block: the gated maxima of its windows against the packed filters. -/
theorem block_5 (t : Fin cfg0.N) : (outsAt0 m c t.val t.isLt).1
    = k0_pay4 (iblk m c 0 t) (packed (m ((c : Thread nD τ).loc main_arg1))) (iblk m c 3 t)
        (packed (m ((c : Thread nD τ).loc main_arg3))) (iblk m c 4 t) := by
  by_cases h : t.val % 8 = 0
  · rw [outsAt0_A m c t h, out_A, block_1, block_2]
  · rw [outsAt0_B m c t h, out_B, scratch_at]

/-- The host's transposed signal, which the kernel's first operand is. -/
theorem entry_0 (n e : Fin 8) (s : Fin 131072) : V m c main_v0 (ValueIdx.ix3 n e s)
    = m ((c : Thread nD τ).loc main_arg0) (ValueIdx.ix3 n s e) := by
  have hv : V m c main_v0 = transpose S8x8x131072 [0, 2, 1] (m ((c : Thread nD τ).loc main_arg0))
      transposes_S8x131072x8_S8x8x131072_0_2_1 := by
    show StableHlo.after hostOps0 _ (Proc.devRef .tc main_v0) = _
    after_results
  refine (congrFun hv _).trans ?_
  exact transpose_apply [0, 2, 1] _ transposes_S8x131072x8_S8x8x131072_0_2_1 _ _
    (fun b => match b with | ⟨0, _⟩ => rfl | ⟨1, _⟩ => rfl | ⟨2, _⟩ => rfl)

/-- The batch row a point loads: channel `e` at time `s` is the launched signal's. -/
theorem block_0 (t : Fin cfg0.N) (e : Fin 8) (s : Fin 131072) : iblk m c 0 t (ValueIdx.ix3 (0 : Fin 1) e s)
    = m ((c : Thread nD τ).loc main_arg0) (ValueIdx.ix3 (⟨t.val, lt_of_lt_of_eq t.isLt N_0⟩ : Fin 8) s e) := by
  rw [← entry_0 m c]
  blk_ext [iblk, index_0 t]

/-- A vector of 128 laid as a row, read at column `o`. -/
theorem row_apply {α : Type} (x : S128.Idx → α) (o : Fin 128) :
    shapeCast S1x128 x shapeCasts_S128_S1x128 (ValueIdx.ix2 (0 : Fin 1) o) = x (ValueIdx.ix1 o) :=
  shapeCast_apply _ shapeCasts_S128_S1x128 _ (ValueIdx.ix1 o) (by
    rw [Shape.rowMajor_val_one, Shape.rowMajor_val_two]
    show (o : ℕ) = 0 * 128 + (o : ℕ); omega)

/-- The first bias as a row, which the kernel's fourth operand is. -/
theorem entry_3 (o : Fin 128) : V m c main_v1 (ValueIdx.ix2 (0 : Fin 1) o)
    = m ((c : Thread nD τ).loc main_arg2) (ValueIdx.ix1 o) := by
  have hv : V m c main_v1 = shapeCast S1x128 (m ((c : Thread nD τ).loc main_arg2)) shapeCasts_S128_S1x128 := by
    show StableHlo.after hostOps0 _ (Proc.devRef .tc main_v1) = _
    after_results
    rfl
  exact (congrFun hv _).trans (row_apply _ o)

/-- The first bias's block is the launched bias. -/
theorem block_3 (t : Fin cfg0.N) (o : Fin 128) : iblk m c 3 t (ValueIdx.ix2 (0 : Fin 1) o)
    = m ((c : Thread nD τ).loc main_arg2) (ValueIdx.ix1 o) := by
  rw [← entry_3 m c]
  blk_ext [iblk, index_3 t]

/-- The second bias as a row, which the kernel's fifth operand is. -/
theorem entry_4 (o : Fin 128) : V m c main_v2 (ValueIdx.ix2 (0 : Fin 1) o)
    = m ((c : Thread nD τ).loc main_arg4) (ValueIdx.ix1 o) := by
  have hv : V m c main_v2 = shapeCast S1x128 (m ((c : Thread nD τ).loc main_arg4)) shapeCasts_S128_S1x128 := by
    show StableHlo.after hostOps0 _ (Proc.devRef .tc main_v2) = _
    after_results
    rfl
  exact (congrFun hv _).trans (row_apply _ o)

/-- The second bias's block is the launched bias. -/
theorem block_4 (t : Fin cfg0.N) (o : Fin 128) : iblk m c 4 t (ValueIdx.ix2 (0 : Fin 1) o)
    = m ((c : Thread nD τ).loc main_arg4) (ValueIdx.ix1 o) := by
  rw [← entry_4 m c]
  blk_ext [iblk, index_4 t]

end Generic

variable (m : (ℓ : Loc nD τ sig) → Buf (Elt Ideal) ℓ) (c : Dev nD)

/-- The kernel's result at batch row `n`, channel `o`, from the arguments as launched. -/
def pooledAt (n : Fin 8) (o : Fin 128) : EReal :=
  Gate.pooled (fun t e => m ((c : Thread nD τ).loc main_arg0) (ValueIdx.ix3 n t e))
    (filter (m ((c : Thread nD τ).loc main_arg1)) o) (filter (m ((c : Thread nD τ).loc main_arg3)) o)
    (m ((c : Thread nD τ).loc main_arg2) (ValueIdx.ix1 o)) (m ((c : Thread nD τ).loc main_arg4) (ValueIdx.ix1 o))

/-- What the body leaves at a point, at column `o` of its block. -/
theorem after_apply (t : Fin cfg0.N) (o : Fin 128) :
    (dats m 0 c).after 5 t (ValueIdx.ix3 (0 : Fin 1) (0 : Fin 1) o)
      = pooledAt m c (⟨t.val, lt_of_lt_of_eq t.isLt N_0⟩ : Fin 8) o := by
  refine (congrFun ((after0_5 m c t).trans (block_5 m c t)) _).trans ?_
  refine (block_apply _ _ _ _ _ o).trans ?_
  unfold pooledAt
  rw [block_3 m c t o, block_4 m c t o]
  exact congrArg (Gate.pooled · _ _ _ _) (funext fun s => funext fun e => block_0 m c t e s)

/-- The kernel's output array after the run: `pooledAt` at every batch row and channel. -/
theorem final : (dats m 0 c).arrAt 5 cfg0.N = fun i : S8x1x128.Idx => pooledAt m c (i 0) (i 2) := by
  refine (dats m 0 c).arrAt_eq_of_covers 5 _ (by decide +kernel) fun t hf y => ?_
  blk_simp
  have hy : y = ValueIdx.ix3 (0 : Fin 1) (0 : Fin 1) (y 2) := by
    funext a
    match a with
    | ⟨0, _⟩ => exact Subsingleton.elim (α := Fin 1) _ _
    | ⟨1, _⟩ => exact Subsingleton.elim (α := Fin 1) _ _
    | ⟨2, _⟩ => rfl
  refine (congrArg ((dats m 0 c).after 5 t) hy).trans ((after_apply m c t (y 2)).trans ?_)
  congr 1
  · apply Fin.ext
    blk_simp [index_5 t]
  · apply Fin.ext
    blk_simp [index_5 t]

/-- The six windows stand on six different arrays. -/
theorem arrays_injective : Function.Injective (Pipeline.arrRef spec0) := by decide

/-- The program's result: the output array with its unit axis dropped. -/
theorem tail : Pipeline.afterTail₀ cfgs (dats m) 0 (V0 m) [hostOps1] c main_v4
    = fun i : S8x128.Idx => pooledAt m c (i 0) (i 1) := by
  unfold Pipeline.afterTail₀
  show StableHlo.after hostOps1 _ (Proc.devRef .tc main_v4) = _
  after_results
  funext i
  have hi : i = ValueIdx.ix2 (i 0) (i 1) := by
    funext a
    match a with
    | ⟨0, _⟩ => rfl
    | ⟨1, _⟩ => rfl
  have hw := (Pipeline.withArrays_arr (cfgs 0).spec arrays_injective c (V0 m c)
    (fun w => (dats m 0 c).arrAt w (cfgs 0).N) 5).trans (final m c)
  refine Eq.trans ?_ (congrFun hw (ValueIdx.ix3 (i 0) (0 : Fin 1) (i 1)))
  exact shapeCast_apply _ shapeCasts_S8x1x128_S8x128 i (ValueIdx.ix3 (i 0) (0 : Fin 1) (i 1)) (by
    rw [Shape.rowMajor_val_two, Shape.rowMajor_val_three]
    show ((i 0 : ℕ) * 1 + 0) * 128 + (i 1 : ℕ) = (i 0 : ℕ) * 128 + (i 1 : ℕ); omega)

/-- The kernel's run in exact arithmetic: the result is `pooledAt` of the launched arguments, and the arguments are
    as launched. -/
theorem run (ρ : Dev nD → PrngReg) :
    θ_run defs (onTc (τ := τ) (main (F := Ideal))) ⟨m, fun _ => 0, ρ⟩ (fun r => ∀ c : Dev nD,
      r.2.mem ((c.tc : Thread nD τ).loc main_v4) = (fun i : S8x128.Idx => pooledAt m c (i 0) (i 1))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)) :=
  (θ_run defs _ _).mono (fun r h c =>
    ⟨((h c).2 main_v4 (Pipeline.mem_restRefs_of main_v4 (by decide) (by decide))).trans (tail m c),
      ((h c).2 main_arg0 (Pipeline.mem_restRefs_of main_arg0 (by decide) (by decide))).trans (W_main_arg0 m (dats m) c),
      ((h c).1 1).trans (((dats m 0 c).arrAt_in 1 rfl _).trans (V_main_arg1 m c)),
      ((h c).2 main_arg2 (Pipeline.mem_restRefs_of main_arg2 (by decide) (by decide))).trans (W_main_arg2 m (dats m) c),
      ((h c).1 2).trans (((dats m 0 c).arrAt_in 2 rfl _).trans (V_main_arg3 m c)),
      ((h c).2 main_arg4 (Pipeline.mem_restRefs_of main_arg4 (by decide) (by decide))).trans (W_main_arg4 m (dats m) c)⟩)
    (run_main m ρ)

end Cert.KernelIdeal.Value
-- ==== Proof.RefRead.lean ====
/-
  What the reference computes over the extended reals, at an index of its result.
-/
module

public import proofs.«01_k».proof.Proof.Gate
public import proofs.«01_k».proof.Proof.Gen.ReferenceIdeal.Read
public import Idealize.ShloMosaic.Lib.TwoAxisContraction
public import Idealize.ShloMosaic.Lib.ValueIdx
public import Idealize.ShloMosaic.Lib.IdealHost

@[expose] public section

set_option maxRecDepth 16384

noncomputable section

open Idealize.ShloMosaic Idealize.ShloMosaic.TcCoe Idealize.SL.Sem
open scoped BigOperators

namespace Cert.ReferenceIdeal.Value

open Cert.ReferenceIdeal Cert.ReferenceIdeal.Gen Cert.ReferenceIdeal.Read

variable (z : FVec Ideal S8x131072x8 .f32) (W W' : FVec Ideal S128x8x512 .f32) (b b' : FVec Ideal S128 .f32)

/-- The signal of batch row `n`, by time and channel. -/
abbrev signal (n : Fin 8) : Fin 131072 → Fin 8 → EReal := fun t e => z (ValueIdx.ix3 n t e)

/-- Filter `o`, by channel and tap. -/
abbrev filter (o : Fin 128) : Fin 8 → Fin 512 → EReal := fun e r => W (ValueIdx.ix3 o e r)

/-- The reference's windows: window `w`, tap `r` is time `w * 512 + r`. -/
theorem windows_apply (n e : Fin 8) (w : Fin 256) (r : Fin 512) :
    val_main_v1 (F := Ideal) z (ValueIdx.ix4 n e w r) = signal z n ⟨(w : ℕ) * 512 + r, by omega⟩ e := by
  have hn := n.isLt
  have he := e.isLt
  have hw := w.isLt
  have hr := r.isLt
  rw [val_main_v1_apply, val_main_v0_apply]
  refine congrArg z (funext fun a => Fin.ext ?_)
  match a with
  | ⟨0, _⟩ => show ((((n : ℕ) * 8 + e) * 256 + w) * 512 + r) / 1048576 = (n : ℕ); omega
  | ⟨1, _⟩ => show ((((n : ℕ) * 8 + e) * 256 + w) * 512 + r) % 131072 = (w : ℕ) * 512 + r; omega
  | ⟨2, _⟩ => show ((((n : ℕ) * 8 + e) * 256 + w) * 512 + r) / 131072 % 8 = (e : ℕ); omega

/-- The two-axis product, read at an index: the sum over channels and taps. -/
theorem product_apply (x : FVec Ideal S8x8x256x512 .f32) (o : Fin 128) (n : Fin 8) (w : Fin 256) :
    Host.dotGeneral dot_S128x8x512_S8x8x256x512_S128x8x256_12_13_0_02_n_n none W x (ValueIdx.ix3 o n w)
      = ∑ e : Fin 8, ∑ r : Fin 512, W (ValueIdx.ix3 o e r) * x (ValueIdx.ix4 n e w r) := by
  let D := dot_S128x8x512_S8x8x256x512_S128x8x256_12_13_0_02_n_n
  have hr : D.contr.rank = 2 := rfl
  have c0 : D.contr.size ⟨0, by omega⟩ = 8 := rfl
  have c1 : D.contr.size ⟨1, by omega⟩ = 512 := rfl
  simp only [Host.dotGeneral]
  rw [Ideal.dotGeneral_apply, ValueIdx.sum_contr2 D 8 512 hr c0 c1]
  refine Finset.sum_congr rfl fun e _ => Finset.sum_congr rfl fun r _ => ?_
  have h0 := ValueIdx.contrEquiv2_symm_val0 D 8 512 hr c0 c1 (e, r)
  have h1 := ValueIdx.contrEquiv2_symm_val1 D 8 512 hr c0 c1 (e, r)
  refine congrArg₂ (fun i j => W i * x j) (funext fun a => Fin.ext ?_) (funext fun a => Fin.ext ?_)
  · match a with
    | ⟨0, _⟩ => rfl
    | ⟨1, _⟩ => exact h0
    | ⟨2, _⟩ => exact h1
  · match a with
    | ⟨0, _⟩ => rfl
    | ⟨1, _⟩ => exact h0
    | ⟨2, _⟩ => rfl
    | ⟨3, _⟩ => exact h1

/-- The first convolution with its bias. -/
theorem conv_apply (n : Fin 8) (o : Fin 128) (w : Fin 256) :
    val_main_v6 (F := Ideal) z W b (ValueIdx.ix3 n o w) = Gate.conv (signal z n) (filter W o) (b (ValueIdx.ix1 o)) w := by
  rw [val_main_v6_apply, Ideal.addf_def, val_main_v3_apply, val_main_v5_apply, val_main_v4_apply]
  unfold Gate.conv
  refine congrArg₂ (· + ·) ?_ (congrArg b (funext fun a => match a with | ⟨0, _⟩ => rfl))
  rw [show idx_main_v3 (ValueIdx.ix3 n o w) = ValueIdx.ix3 o n w from
    funext fun a => match a with | ⟨0, _⟩ => rfl | ⟨1, _⟩ => rfl | ⟨2, _⟩ => rfl]
  unfold val_main_v2
  rw [product_apply]
  refine Finset.sum_congr rfl fun e _ => Finset.sum_congr rfl fun r _ => ?_
  rw [windows_apply, mul_comm]

/-- The second convolution is the same function of its own filters and bias. -/
theorem val_main_v11_eq : val_main_v11 (F := Ideal) z W b = val_main_v6 (F := Ideal) z W b := rfl

/-- The reference's gate is the logistic of the second convolution. -/
theorem gate_apply (i : S8x128x256.Idx) :
    val_main_v17 (F := Ideal) z W b i = Ideal.logistic (val_main_v6 (F := Ideal) z W b i) := by
  rw [val_main_v17_apply, val_main_v16_apply, val_main_v15_apply, val_main_v14_apply, val_main_v13_apply,
    val_main_v12_apply, val_main_v11_eq, val_main_cst_apply, val_main_cst_0_apply]
  show Ideal.div (Ideal.ofBits .f32 0x3F800000#32) (Ideal.ofBits .f32 0x3F800000#32 + _) = _
  rw [Ideal.ofBits_one_f32]
  rfl

/-- The gated convolution at one window. -/
theorem gated_apply (n : Fin 8) (o : Fin 128) (w : Fin 256) :
    val_main_v18 (F := Ideal) z W b W' b' (ValueIdx.ix3 n o w)
      = Gate.conv (signal z n) (filter W o) (b (ValueIdx.ix1 o)) w
        * Ideal.logistic (Gate.conv (signal z n) (filter W' o) (b' (ValueIdx.ix1 o)) w) := by
  rw [val_main_v18_apply, Ideal.mulf_def, gate_apply, conv_apply, conv_apply]

/-- The reference's result at batch row `n`, channel `o`. -/
theorem result_apply (n : Fin 8) (o : Fin 128) :
    val_main_v19 (F := Ideal) z W b W' b' (ValueIdx.ix2 n o)
      = Gate.pooled (signal z n) (filter W o) (filter W' o) (b (ValueIdx.ix1 o)) (b' (ValueIdx.ix1 o)) := by
  unfold val_main_v19
  have hred : S8x128x256.Reduces [2] S8x128 := by decide
  rw [Host.reduce_eq_fold_single FloatOps.maximumf _ _ reducesTo_S8x128x256_S8x128_d2 hred h_S_]
  unfold Gate.pooled
  refine congrArg (Finset.fold max (Ideal.ofBits .f32 0xFF800000#32) · (Finset.univ : Finset (Fin 256))) (funext fun w => ?_)
  have hl : hred.lift (ValueIdx.ix2 n o) w = ValueIdx.ix3 n o w := by
    funext a
    match a with
    | ⟨0, _⟩ => rfl
    | ⟨1, _⟩ => rfl
    | ⟨2, _⟩ => rfl
  rw [Function.comp_apply, hl]
  exact gated_apply z W W' b b' n o w

end Cert.ReferenceIdeal.Value
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.ReferenceIdeal.Read
public import proofs.«01_k».proof.Proof.KernelArray
public import proofs.«01_k».proof.Proof.RefRead
public import Idealize.ShloMosaic.Lib.Quiescent
public import Idealize.ShloMosaic.Adequacy
public import Idealize.ShloMosaic.Init

@[expose] public section

noncomputable section

namespace Cert.Proof

open Idealize.ShloMosaic Idealize.ShloMosaic.TcCoe Idealize.SL.Sem

/-- `Cert.quiescent_Kernel`: the kernel as printed runs, keeps its arguments and ends with every counter at zero. -/
theorem frame_kernel : Cert.quiescent_Kernel := fun m ρ _ => Cert.Kernel.Gen.frame m ρ

/-- `Cert.quiescent_KernelIdeal`: so does the idealized kernel. -/
theorem frame_kernelIdeal : Cert.quiescent_KernelIdeal := fun m ρ _ => Cert.KernelIdeal.Gen.frame m ρ

/-- `Cert.quiescent_ReferenceIdeal`: so does the reference, which has no semaphore. -/
theorem frame_referenceIdeal : Cert.quiescent_ReferenceIdeal := fun m ρ _ =>
  (θ_run Cert.ReferenceIdeal.defs _ _).mono
    (fun r h => ⟨fun c => (h c).2, sem_eq_zero_of_no_sems (by decide) r.2⟩)
    (Cert.ReferenceIdeal.Value.run (F := Ideal) m ρ)

/-- `Cert.preserves_Kernel_KernelIdeal`: the idealized kernel is the printed one, no rule being asked for. -/
theorem preserves_kernel : Cert.preserves_Kernel_KernelIdeal := trivial

/-- The equation: the reference's result of the kernel's launched arguments is, at every batch row and channel, the
    kernel's. -/
theorem value (m : (ℓ : Loc Cert.KernelIdeal.nD Cert.KernelIdeal.τ Cert.KernelIdeal.sig) → Buf (Elt Ideal) ℓ)
    (c : Dev Cert.KernelIdeal.nD) :
    Cert.ReferenceIdeal.Read.val_main_v19 (F := Ideal)
        (m ((c.tc : Thread Cert.KernelIdeal.nD Cert.KernelIdeal.τ).loc Cert.KernelIdeal.main_arg0))
        (m ((c.tc : Thread Cert.KernelIdeal.nD Cert.KernelIdeal.τ).loc Cert.KernelIdeal.main_arg1))
        (m ((c.tc : Thread Cert.KernelIdeal.nD Cert.KernelIdeal.τ).loc Cert.KernelIdeal.main_arg2))
        (m ((c.tc : Thread Cert.KernelIdeal.nD Cert.KernelIdeal.τ).loc Cert.KernelIdeal.main_arg3))
        (m ((c.tc : Thread Cert.KernelIdeal.nD Cert.KernelIdeal.τ).loc Cert.KernelIdeal.main_arg4))
      = fun i : Cert.KernelIdeal.S8x128.Idx => Cert.KernelIdeal.Value.pooledAt m c (i 0) (i 1) := by
  funext i
  have hi : i = ValueIdx.ix2 (i 0) (i 1) := by
    funext a
    match a with
    | ⟨0, _⟩ => rfl
    | ⟨1, _⟩ => rfl
  exact (congrArg _ hi).trans (Cert.ReferenceIdeal.Value.result_apply _ _ _ _ _ (i 0) (i 1))

/-- `Cert.algebraic_KernelIdeal_ReferenceIdeal`: from memories that agree on the arguments, both end with
    `pooledAt` of them as the result. -/
theorem algebraic_kernel : Cert.algebraic_KernelIdeal_ReferenceIdeal := fun m g m' g' _ hag =>
  ⟨fun c i => Cert.KernelIdeal.Value.pooledAt m c (i 0) (i 1), Cert.KernelIdeal.Value.run m g,
    (θ_run _ _ _).mono (fun _ h c => ⟨(h c).1.trans (by
      refine (Cert.ReferenceIdeal.Read.val_main_v19_eq (F := Ideal) _ _ _ _ _).trans ?_
      obtain ⟨h0, h1, h2, h3, h4⟩ := hag c
      refine Eq.trans ?_ (value m c)
      rw [h0, h1, h2, h3, h4]), (h c).2⟩)
      (Cert.ReferenceIdeal.Value.run (F := Ideal) m' g')⟩

/-- The certificate's claim: its five parts. -/
theorem claim : Cert.Claim := ⟨Cert.Kernel.Gen.facts, Cert.KernelIdeal.Gen.facts, Cert.ReferenceIdeal.Gen.facts,
  frame_kernel, frame_kernelIdeal, frame_referenceIdeal, preserves_kernel, algebraic_kernel⟩

end Cert.Proof

end
